-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S512x26624 : Shape := ⟨2, ![512, 26624]⟩
abbrev S4x256x2 : Shape := ⟨3, ![4, 256, 2]⟩
abbrev S4 : Shape := ⟨1, ![4]⟩
abbrev S26624 : Shape := ⟨1, ![26624]⟩
abbrev S256x4x128x2 : Shape := ⟨4, ![256, 4, 128, 2]⟩
abbrev S256x4x2x128 : Shape := ⟨4, ![256, 4, 2, 128]⟩
abbrev S256x1024 : Shape := ⟨2, ![256, 1024]⟩
abbrev S1x26624 : Shape := ⟨2, ![1, 26624]⟩
abbrev S256x26624 : Shape := ⟨2, ![256, 26624]⟩
abbrev S512x1024 : Shape := ⟨2, ![512, 1024]⟩
abbrev S1x1024 : Shape := ⟨2, ![1, 1024]⟩
abbrev S2048x128 : Shape := ⟨2, ![2048, 128]⟩
abbrev S1x32x1 : Shape := ⟨3, ![1, 32, 1]⟩
abbrev S32x1 : Shape := ⟨2, ![32, 1]⟩
abbrev S32x128 : Shape := ⟨2, ![32, 128]⟩
abbrev S1 : Shape := ⟨1, ![1]⟩
abbrev S32x128x1 : Shape := ⟨3, ![32, 128, 1]⟩
abbrev S256x128 : Shape := ⟨2, ![256, 128]⟩
abbrev S256x256 : Shape := ⟨2, ![256, 256]⟩
abbrev S1x256 : Shape := ⟨2, ![1, 256]⟩
abbrev S1x256x26624 : Shape := ⟨3, ![1, 256, 26624]⟩

abbrev nBuf : Space → Nat
  | .hbm => 12
  | .vmem => 9
  | .smem => 1
  | _ => 0

abbrev bufTy : (tb : Table) → Fin (tcTables nBuf tb) → BufTy
  | .hbm, ⟨0, _⟩ => ⟨S1x256x1024, .bf16⟩
  | .hbm, ⟨1, _⟩ => ⟨S512x26624, .i8⟩
  | .hbm, ⟨2, _⟩ => ⟨S4x256x2, .i8⟩
  | .hbm, ⟨3, _⟩ => ⟨S4, .bf16⟩
  | .hbm, ⟨4, _⟩ => ⟨S26624, .f32⟩
  | .hbm, ⟨5, _⟩ => ⟨S256x4x128x2, .bf16⟩
  | .hbm, ⟨6, _⟩ => ⟨S256x4x2x128, .bf16⟩
  | .hbm, ⟨7, _⟩ => ⟨S256x1024, .bf16⟩
  | .hbm, ⟨8, _⟩ => ⟨S4, .f32⟩
  | .hbm, ⟨9, _⟩ => ⟨S1x26624, .f32⟩
  | .hbm, ⟨10, _⟩ => ⟨S256x26624, .bf16⟩
  | .hbm, ⟨11, _⟩ => ⟨S1x256x26624, .bf16⟩
  | .local _ .vmem, ⟨0, _⟩ => ⟨S4x256x2, .i8⟩
  | .local _ .vmem, ⟨1, _⟩ => ⟨S256x1024, .bf16⟩
  | .local _ .vmem, ⟨2, _⟩ => ⟨S512x1024, .i8⟩
  | .local _ .vmem, ⟨3, _⟩ => ⟨S512x1024, .i8⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S2048x128, .i8⟩
  | .local _ .smem, ⟨0, _⟩ => ⟨S4, .f32⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x2 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x1024 : Shape := ⟨3, ![1, 256, 1024]⟩
abbrev S512x26624 : Shape := ⟨2, ![512, 26624]⟩
abbrev S4x256x2 : Shape := ⟨3, ![4, 256, 2]⟩
abbrev S4 : Shape := ⟨1, ![4]⟩
abbrev S26624 : Shape := ⟨1, ![26624]⟩
abbrev S4x1x1 : Shape := ⟨3, ![4, 1, 1]⟩
abbrev S4x128x26624 : Shape := ⟨3, ![4, 128, 26624]⟩
abbrev S_ : Shape := ⟨0, ![]⟩
abbrev S4x128x26624x1 : Shape := ⟨4, ![4, 128, 26624, 1]⟩
abbrev S4x128x26624x2 : Shape := ⟨4, ![4, 128, 26624, 2]⟩
abbrev S512x26624x2 : Shape := ⟨3, ![512, 26624, 2]⟩
abbrev S512x26624x1 : Shape := ⟨3, ![512, 26624, 1]⟩
abbrev S1x256x512x2 : Shape := ⟨4, ![1, 256, 512, 2]⟩
abbrev S1x256x512x1 : Shape := ⟨4, ![1, 256, 512, 1]⟩
abbrev S1x256x512 : Shape := ⟨3, ![1, 256, 512]⟩
abbrev S1x256x26624 : Shape := ⟨3, ![1, 256, 26624]⟩
abbrev S1x1x26624 : Shape := ⟨3, ![1, 1, 26624]⟩

abbrev nBuf : Space → Nat
  | .hbm => 51
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S512x26624, .i8⟩
  | .hbm, ⟨2, _⟩ => ⟨S4x256x2, .i8⟩
  | .hbm, ⟨3, _⟩ => ⟨S4, .bf16⟩
  | .hbm, ⟨4, _⟩ => ⟨S26624, .f32⟩
  | .hbm, ⟨5, _⟩ => ⟨S4x256x2, .i32⟩
  | .hbm, ⟨6, _⟩ => ⟨S4x256x2, .f32⟩
  | .hbm, ⟨7, _⟩ => ⟨S4x256x2, .bf16⟩
  | .hbm, ⟨8, _⟩ => ⟨S4x1x1, .bf16⟩
  | .hbm, ⟨9, _⟩ => ⟨S4x256x2, .bf16⟩
  | .hbm, ⟨10, _⟩ => ⟨S4x256x2, .bf16⟩
  | .hbm, ⟨11, _⟩ => ⟨S4x128x26624, .i8⟩
  | .hbm, ⟨12, _⟩ => ⟨S4x128x26624, .i32⟩
  | .hbm, ⟨13, _⟩ => ⟨S4, .i32⟩
  | .hbm, ⟨14, _⟩ => ⟨S4x1x1, .i32⟩
  | .hbm, ⟨15, _⟩ => ⟨S_, .i32⟩
  | .hbm, ⟨16, _⟩ => ⟨S4x1x1, .i32⟩
  | .hbm, ⟨17, _⟩ => ⟨S4x1x1, .i1⟩
  | .hbm, ⟨18, _⟩ => ⟨S_, .i32⟩
  | .hbm, ⟨19, _⟩ => ⟨S4x1x1, .i32⟩
  | .hbm, ⟨20, _⟩ => ⟨S4x1x1, .i32⟩
  | .hbm, ⟨21, _⟩ => ⟨S4x1x1, .i32⟩
  | .hbm, ⟨22, _⟩ => ⟨S_, .i32⟩
  | .hbm, ⟨23, _⟩ => ⟨S4x128x26624, .i32⟩
  | .hbm, ⟨24, _⟩ => ⟨S4x128x26624, .i1⟩
  | .hbm, ⟨25, _⟩ => ⟨S_, .i32⟩
  | .hbm, ⟨26, _⟩ => ⟨S4x128x26624, .i32⟩
  | .hbm, ⟨27, _⟩ => ⟨S4x128x26624, .i32⟩
  | .hbm, ⟨28, _⟩ => ⟨S4x128x26624, .i32⟩
  | .hbm, ⟨29, _⟩ => ⟨S4x128x26624, .i32⟩
  | .hbm, ⟨30, _⟩ => ⟨S4x128x26624x1, .i32⟩
  | .hbm, ⟨31, _⟩ => ⟨S4x128x26624x1, .i32⟩
  | .hbm, ⟨32, _⟩ => ⟨S4x128x26624x2, .i32⟩
  | .hbm, ⟨33, _⟩ => ⟨S4x128x26624x2, .bf16⟩
  | .hbm, ⟨34, _⟩ => ⟨S512x26624x2, .bf16⟩
  | .hbm, ⟨35, _⟩ => ⟨S512x26624x1, .bf16⟩
  | .hbm, ⟨36, _⟩ => ⟨S512x26624, .bf16⟩
  | .hbm, ⟨37, _⟩ => ⟨S512x26624x1, .bf16⟩
  | .hbm, ⟨38, _⟩ => ⟨S512x26624, .bf16⟩
  | .hbm, ⟨39, _⟩ => ⟨S1x256x512x2, .bf16⟩
  | .hbm, ⟨40, _⟩ => ⟨S1x256x512x1, .bf16⟩
  | .hbm, ⟨41, _⟩ => ⟨S1x256x512, .bf16⟩
  | .hbm, ⟨42, _⟩ => ⟨S1x256x512x1, .bf16⟩
  | .hbm, ⟨43, _⟩ => ⟨S1x256x512, .bf16⟩
  | .hbm, ⟨44, _⟩ => ⟨S1x256x26624, .f32⟩
  | .hbm, ⟨45, _⟩ => ⟨S1x256x26624, .f32⟩
  | .hbm, ⟨46, _⟩ => ⟨S1x256x26624, .f32⟩
  | .hbm, ⟨47, _⟩ => ⟨S1x1x26624, .f32⟩
  | .hbm, ⟨48, _⟩ => ⟨S1x256x26624, .f32⟩
  | .hbm, ⟨49, _⟩ => ⟨S1x256x26624, .f32⟩
  | .hbm, ⟨50, _⟩ => ⟨S1x256x26624, .bf16⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Proof.Block.lean ====
/- What one grid point computes, written once: how a 32x128 tile of weights is decoded from its indices and eight
   tables, how the tiles make a 256x256 weight block, and how the four weight blocks make one 256-column strip of
   the result. Every function here is stated over the values the body loads, at any float interpretation. -/
module

public import proofs.«01_k».proof.Proof.Gen.KernelIdeal.Skeleton
public import Idealize.ShloMosaic.Lib.Ring

@[expose] public section

noncomputable section

namespace Cert.KernelIdeal.Block

open Idealize.ShloMosaic Idealize.ShloMosaic.TcCoe Cert.KernelIdeal Cert.KernelIdeal.Gen

variable {F : FTy → Type} [FloatOps F]

/-- The lower five bits of each index, as the 32-bit row numbers of a gather. -/
def low5 (v : Vec F S32x128 .i8) : IVec S32x128 32 :=
  shapeCast S32x128 (shapeCast S32x128x1 (extui 32 (andi v (broadcast S32x128 31#8)) natLt_8_32)
    shapeCasts_S32x128_S32x128x1) shapeCasts_S32x128x1_S32x128

/-- Whether each index has one of the bits of `w`. -/
def mask (v : Vec F S32x128 .i8) (w : BitVec 8) : IVec S32x128 1 :=
  cmpi .ne (andi v (broadcast S32x128 w)) (broadcast S32x128 0#8)

/-- The rows of one 32-row table that the indices name, lane by lane. -/
def cand (t v : Vec F S32x128 .i8) : IVec S32x128 8 := dynamicGather 0 t (low5 v)

/-- The codebook words a tile of indices names: the three upper bits choose among the eight tables. -/
def pick (T : Fin 8 → Vec F S32x128 .i8) (v : Vec F S32x128 .i8) : IVec S32x128 8 :=
  select (mask v 128#8)
    (select (mask v 64#8) (select (mask v 32#8) (cand (T 7) v) (cand (T 6) v))
      (select (mask v 32#8) (cand (T 5) v) (cand (T 4) v)))
    (select (mask v 64#8) (select (mask v 32#8) (cand (T 3) v) (cand (T 2) v))
      (select (mask v 32#8) (cand (T 1) v) (cand (T 0) v)))

/-- A tile of weights: the codebook words, each times the block's scale. -/
def tile (T : Fin 8 → Vec F S32x128 .i8) (s : Elt F .f32) (v : Vec F S32x128 .i8) : FVec F S32x128 .bf16 :=
  mulf (sitofp .bf16 (pick T v)) (broadcast S32x128 (Scalar.truncf .bf16 bitsLt_bf16_f32 s))

/-- A 256x128 column of weights: four tiles of the first vector component above four of the second. -/
def col (T : Fin 2 → Fin 8 → Vec F S32x128 .i8) (s : Elt F .f32) (I : Fin 4 → Vec F S32x128 .i8) :
    FVec F S256x128 .bf16 :=
  concatenate S256x128 0 [⟨S32x128, tile (T 0) s (I 0)⟩, ⟨S32x128, tile (T 0) s (I 1)⟩,
    ⟨S32x128, tile (T 0) s (I 2)⟩, ⟨S32x128, tile (T 0) s (I 3)⟩, ⟨S32x128, tile (T 1) s (I 0)⟩,
    ⟨S32x128, tile (T 1) s (I 1)⟩, ⟨S32x128, tile (T 1) s (I 2)⟩, ⟨S32x128, tile (T 1) s (I 3)⟩]
    concatenates_S32x128_S32x128_S32x128_S32x128_S32x128_S32x128_S32x128_S32x128_S256x128_d0

/-- One codebook block's part of a strip: the activations' 256 columns of that block times its 256x256 weights. -/
def part (T : Fin 2 → Fin 8 → Vec F S32x128 .i8) (s : Elt F .f32) (I : Fin 2 → Fin 4 → Vec F S32x128 .i8)
    (X : Vec F S256x256 .bf16) : FVec F S256x256 .f32 :=
  matmul dot_S256x256_S256x256_S256x256_1_0_0_1_n_n none (shapeCast S256x256 X shapeCasts_S256x256_S256x256)
    (concatenate S256x256 1 [⟨S256x128, col T s (I 0)⟩, ⟨S256x128, col T s (I 1)⟩]
      concatenates_S256x128_S256x128_S256x256_d1)
    (constant S256x256 .f32 0x00000000#32)

/-- One 256-column strip of the result: the four blocks' parts summed, times the column scale. -/
def strip (T : Fin 4 → Fin 2 → Fin 8 → Vec F S32x128 .i8) (s : Fin 4 → Elt F .f32)
    (I : Fin 4 → Fin 2 → Fin 4 → Vec F S32x128 .i8) (X : Fin 4 → Vec F S256x256 .bf16)
    (S : Vec F S1x256 .f32) : FVec F S256x256 .bf16 :=
  truncf .bf16 (mulf
    (addf (addf (addf (part (T 0) (s 0) (I 0) (X 0)) (part (T 1) (s 1) (I 1) (X 1)))
      (part (T 2) (s 2) (I 2) (X 2))) (part (T 3) (s 3) (I 3) (X 3)))
    (broadcastTo S256x256 (shapeCast S1x256 S shapeCasts_S1x256_S1x256) broadcasts_S1x256_S256x256))
    bitsLt_bf16_f32

/-- The 32 scratch rows of table `g` of component `c` of block `b`. -/
abbrev tabRect (b : Fin 4) (c : Fin 2) (g : Fin 8) : Rect S2048x128 :=
  Rect.unit ![((b.val * 2 + c.val) * 8 + g.val) * 32, 0] S32x128.size (by
    have := b.isLt; have := c.isLt; have := g.isLt
    intro a; fin_cases a
    · show ((b.val * 2 + c.val) * 8 + g.val) * 32 + 32 ≤ 2048; omega
    · show 0 + 128 ≤ 128; omega)

/-- The index tile of block `b`, strip `q`, half `h`, row group `k`. -/
abbrev idxRect (q b : Fin 4) (h : Fin 2) (k : Fin 4) : Rect S512x1024 :=
  Rect.unit ![b.val * 128 + k.val * 32, q.val * 256 + h.val * 128] S32x128.size (by
    have := b.isLt; have := h.isLt; have := k.isLt; have := q.isLt
    intro a; fin_cases a
    · show b.val * 128 + k.val * 32 + 32 ≤ 512; omega
    · show q.val * 256 + h.val * 128 + 128 ≤ 1024; omega)

/-- The 256 columns numbered `b` of an array of 256 rows and 1024 columns. -/
abbrev colRect (b : Fin 4) : Rect S256x1024 :=
  Rect.unit ![0, b.val * 256] S256x256.size (by
    have := b.isLt
    intro a; fin_cases a
    · show 0 + 256 ≤ 256; omega
    · show b.val * 256 + 256 ≤ 1024; omega)

/-- The 256 column scales of strip `q`. -/
abbrev scaleRect (q : Fin 4) : Rect S1x1024 :=
  Rect.unit ![0, q.val * 256] S1x256.size (by
    have := q.isLt
    intro a; fin_cases a
    · show 0 + 1 ≤ 1; omega
    · show q.val * 256 + 256 ≤ 1024; omega)

/-- The word of block `b`'s scale. -/
abbrev wordRect (b : Fin 4) : Rect S4 :=
  Rect.unit ![b.val] S1.size (by
    have := b.isLt
    intro a; fin_cases a
    show b.val + 1 ≤ 4; omega)

/-- The four strips of the result one point stores, last first. -/
def strips (T : Fin 4 → Fin 2 → Fin 8 → Vec F S32x128 .i8) (s : Fin 4 → Elt F .f32)
    (I : Fin 4 → Fin 4 → Fin 2 → Fin 4 → Vec F S32x128 .i8) (X : Fin 4 → Vec F S256x256 .bf16)
    (S : Fin 4 → Vec F S1x256 .f32) : List (View.Piece (Elt F) S256x1024 .bf16) :=
  [⟨colRect 3, strip T s (I 3) X (S 3)⟩, ⟨colRect 2, strip T s (I 2) X (S 2)⟩,
    ⟨colRect 1, strip T s (I 1) X (S 1)⟩, ⟨colRect 0, strip T s (I 0) X (S 0)⟩]

/-- One table: a column of 32 codebook words, repeated across the 128 lanes. -/
def tabVal (v : Vec F S1x32x1 .i8) : Vec F S32x128 .i8 :=
  shapeCast S32x128 (trunci 8 (broadcastTo S32x128 (shapeCast S32x1 (extsi 32 (shapeCast S32x1 v
    shapeCasts_S1x32x1_S32x1) natLt_8_32) shapeCasts_S32x1_S32x1) broadcasts_S32x1_S32x128) natLt_8_32)
    shapeCasts_S32x128_S32x128

/-- The 32 codebook words of group `g` of component `c` of block `b`. -/
abbrev bookRect (b : Fin 4) (c : Fin 2) (g : Fin 8) : Rect S4x256x2 :=
  Rect.unit ![b.val, g.val * 32, c.val] S1x32x1.size (by
    have := b.isLt; have := c.isLt; have := g.isLt
    intro a; fin_cases a
    · show b.val + 1 ≤ 4; omega
    · show g.val * 32 + 32 ≤ 256; omega
    · show c.val + 1 ≤ 2; omega)

/-- The store of the table numbered `k` of 64: block `k / 16`, component `k / 8 % 2`, group `k % 8`. -/
def tabPiece (C : Fin 4 → Fin 2 → Fin 8 → Vec F S1x32x1 .i8) (k : ℕ) : View.Piece (Elt F) S2048x128 .i8 :=
  let b : Fin 4 := ⟨k / 16 % 4, Nat.mod_lt _ (by decide)⟩
  let c : Fin 2 := ⟨k / 8 % 2, Nat.mod_lt _ (by decide)⟩
  let g : Fin 8 := ⟨k % 8, Nat.mod_lt _ (by decide)⟩
  ⟨tabRect b c g, tabVal (C b c g)⟩

/-- The stores of the first `n` tables, last first. -/
def tabPieces (C : Fin 4 → Fin 2 → Fin 8 → Vec F S1x32x1 .i8) : ℕ → List (View.Piece (Elt F) S2048x128 .i8)
  | 0 => []
  | n + 1 => tabPiece C n :: tabPieces C n

end Cert.KernelIdeal.Block
-- ==== Proof.Spec.lean ====
/- What both programs compute, as a function of the five argument arrays and of no program: the decoded weight of a row
   pair at a column, and the result. -/
module

public import Idealize.ShloMosaic.PureOps.Ideal
public import Idealize.ShloMosaic.Lib.ValueIdx

@[expose] public section

noncomputable section

namespace Cert.Spec

open Idealize.ShloMosaic Idealize.ShloMosaic.ValueIdx

/-- The row block (of four) that row `j` of the index array belongs to. -/
abbrev blk (j : Fin 512) : Fin 4 := ⟨j.val / 128, by omega⟩

/-- An 8-bit word as a codebook entry number. -/
abbrev entry (w : BitVec 8) : Fin 256 := ⟨w.toNat, w.isLt⟩

/-- The decoded weight: component `c` of the codebook entry that row `j`, column `n` names, as an integer, times the
    scale of the row's block. -/
def W (idx : (⟨2, ![512, 26624]⟩ : Shape).Idx → BitVec 8) (cb : (⟨3, ![4, 256, 2]⟩ : Shape).Idx → BitVec 8)
    (s : (⟨1, ![4]⟩ : Shape).Idx → EReal) (j : Fin 512) (n : Fin 26624) (c : Fin 2) : EReal :=
  (((cb (ix3 (blk j) (entry (idx (ix2 j n))) c)).toInt : ℝ) : EReal) * s (ix1 (blk j))

/-- The activation of row pair `j`, component `c`, in row `m`. -/
def X (x : (⟨3, ![1, 256, 1024]⟩ : Shape).Idx → EReal) (m : Fin 256) (j : Fin 512) (c : Fin 2) : EReal :=
  x (ix3 (0 : Fin 1) m ⟨2 * j.val + c.val, by omega⟩)

/-- The result at row `m`, column `n`: the even components' products summed, the odd components' products summed, the two
    added, and the sum scaled by the column's scale. -/
def Y (x : (⟨3, ![1, 256, 1024]⟩ : Shape).Idx → EReal) (idx : (⟨2, ![512, 26624]⟩ : Shape).Idx → BitVec 8)
    (cb : (⟨3, ![4, 256, 2]⟩ : Shape).Idx → BitVec 8) (s : (⟨1, ![4]⟩ : Shape).Idx → EReal)
    (sc : (⟨1, ![26624]⟩ : Shape).Idx → EReal) (m : Fin 256) (n : Fin 26624) : EReal :=
  ((∑ j : Fin 512, X x m j 0 * W idx cb s j n 0) + ∑ j : Fin 512, X x m j 1 * W idx cb s j n 1) * sc (ix1 n)

end Cert.Spec

end
-- ==== Proof.Point.lean ====
/- Block.lean read at an index, over the extended reals: a decoded tile, a column of tiles, a block's part of a strip,
   and a strip. -/
module

public import proofs.«01_k».proof.Proof.Block
public import proofs.«01_k».proof.Proof.Spec
public import Idealize.ShloMosaic.Lib.Layout
public import Idealize.ShloMosaic.Lib.MatmulPlain
public import Idealize.ShloMosaic.Lib.Pipeline.Value

@[expose] public section

noncomputable section

namespace Cert.KernelIdeal.Block

open Idealize.ShloMosaic Idealize.ShloMosaic.TcCoe Idealize.ShloMosaic.ValueIdx Cert.KernelIdeal Cert.KernelIdeal.Gen

/-- A gather candidate at row `r`, lane `l`: the table's word at the row the index's lower five bits name. -/
theorem cand_apply (t v : Vec Ideal S32x128 .i8) (r : Fin 32) (l : Fin 128) :
    cand (F := Ideal) t v (ix2 r l)
      = t (ix2 ⟨(v (ix2 r l) : BitVec 8).toNat % 32, Nat.mod_lt _ (by decide)⟩ l) := by
  unfold cand low5 dynamicGather
  rw [shapeCast_shapeCast]
  refine congrArg t (funext fun a => Fin.ext ?_)
  match a with
  | ⟨0, _⟩ =>
    show ((v (ix2 r l) &&& 31#8 : BitVec 8).setWidth 32).toNat % 32 = (v (ix2 r l) : BitVec 8).toNat % 32
    generalize (v (ix2 r l) : BitVec 8) = w
    revert w; decide
  | ⟨1, _⟩ => rfl

/-- A choice between two entries of a list is the entry at the chosen place. -/
theorem select_entry {α β : Type} (B : α → β) (p : BitVec 1) (i j : α) :
    Scalar.select p (B i) (B j) = B (Scalar.select p i j) := by
  unfold Scalar.select; split <;> rfl

/-- The picked word at row `r`, lane `l`, when the eight tables hold the list `B` in every lane: the entry the whole
    index names. -/
theorem pick_apply (T : Fin 8 → Vec Ideal S32x128 .i8) (v : Vec Ideal S32x128 .i8) (B : Fin 256 → BitVec 8)
    (hT : ∀ (g : Fin 8) (r : Fin 32) (l : Fin 128), T g (ix2 r l) = B ⟨g.val * 32 + r.val, by omega⟩)
    (r : Fin 32) (l : Fin 128) :
    pick (F := Ideal) T v (ix2 r l) = B (Spec.entry (v (ix2 r l))) := by
  unfold pick select mask
  simp only [cand_apply, hT, select_entry]
  refine congrArg B ?_
  show Scalar.select (IntOp.cmpi .ne ((v (ix2 r l) : BitVec 8) &&& 128#8) 0#8)
      (Scalar.select (IntOp.cmpi .ne ((v (ix2 r l) : BitVec 8) &&& 64#8) 0#8)
        (Scalar.select (IntOp.cmpi .ne ((v (ix2 r l) : BitVec 8) &&& 32#8) 0#8) _ _)
        (Scalar.select (IntOp.cmpi .ne ((v (ix2 r l) : BitVec 8) &&& 32#8) 0#8) _ _))
      (Scalar.select (IntOp.cmpi .ne ((v (ix2 r l) : BitVec 8) &&& 64#8) 0#8)
        (Scalar.select (IntOp.cmpi .ne ((v (ix2 r l) : BitVec 8) &&& 32#8) 0#8) _ _)
        (Scalar.select (IntOp.cmpi .ne ((v (ix2 r l) : BitVec 8) &&& 32#8) 0#8) _ _)) = _
  generalize (v (ix2 r l) : BitVec 8) = w
  revert w; decide

/-- A tile of weights at row `r`, lane `l`: the named entry as an integer, times the scale. -/
theorem tile_apply (T : Fin 8 → Vec Ideal S32x128 .i8) (s : EReal) (v : Vec Ideal S32x128 .i8)
    (B : Fin 256 → BitVec 8)
    (hT : ∀ (g : Fin 8) (r : Fin 32) (l : Fin 128), T g (ix2 r l) = B ⟨g.val * 32 + r.val, by omega⟩)
    (r : Fin 32) (l : Fin 128) :
    tile (F := Ideal) T s v (ix2 r l) = (((B (Spec.entry (v (ix2 r l)))).toInt : ℝ) : EReal) * s := by
  show ((((pick (F := Ideal) T v (ix2 r l)).toInt : ℝ) : EReal)) * s = _
  rw [pick_apply T v B hT]

/-- A column of weights at row `k`, lane `l`: the component is `k / 128`, the index row `k % 128`. -/
theorem col_apply (T : Fin 2 → Fin 8 → Vec Ideal S32x128 .i8) (s : EReal) (I : Fin 4 → Vec Ideal S32x128 .i8)
    (B : Fin 2 → Fin 256 → BitVec 8)
    (hT : ∀ (c : Fin 2) (g : Fin 8) (r : Fin 32) (l : Fin 128), T c g (ix2 r l) = B c ⟨g.val * 32 + r.val, by omega⟩)
    (J : Fin 128 → Fin 128 → BitVec 8)
    (hI : ∀ (k : Fin 4) (r : Fin 32) (l : Fin 128), I k (ix2 r l) = J ⟨k.val * 32 + r.val, by omega⟩ l)
    (k : Fin 256) (l : Fin 128) :
    col (F := Ideal) T s I (ix2 k l)
      = (((B ⟨k.val / 128, by omega⟩ (Spec.entry (J ⟨k.val % 128, Nat.mod_lt _ (by decide)⟩ l))).toInt : ℝ) : EReal)
          * s := by
  have hk := k.isLt
  have e := concatenate_ofFn_apply (t := S256x128) (s₁ := S32x128) (0 : Fin 2)
    (fun n : Fin 8 => tile (F := Ideal) (T ⟨n.val / 4, by omega⟩) s (I ⟨n.val % 4, Nat.mod_lt _ (by decide)⟩))
    concatenates_S32x128_S32x128_S32x128_S32x128_S32x128_S32x128_S32x128_S32x128_S256x128_d0 rfl 32 rfl (ix2 k l)
    ⟨k.val / 32, by omega⟩ rfl (ix2 ⟨k.val % 32, Nat.mod_lt _ (by decide)⟩ l) rfl
    (by intro b hb; match b with | ⟨0, _⟩ => exact absurd rfl hb | ⟨1, _⟩ => rfl)
  refine Eq.trans ?_ (e.trans ?_)
  · rfl
  · rw [tile_apply _ s _ (B ⟨k.val / 32 / 4, by omega⟩) (fun g r l => hT _ g r l), hI]
    have e1 : (⟨k.val / 32 / 4, by omega⟩ : Fin 2) = ⟨k.val / 128, by omega⟩ := Fin.ext (by show k.val / 32 / 4 = k.val / 128; omega)
    have e2 : (⟨k.val / 32 % 4 * 32 + k.val % 32, by omega⟩ : Fin 128) = ⟨k.val % 128, Nat.mod_lt _ (by decide)⟩ :=
      Fin.ext (by show k.val / 32 % 4 * 32 + k.val % 32 = k.val % 128; omega)
    rw [e1]
    exact congrArg (fun z => ((((B _ (Spec.entry (J z l))).toInt : ℝ) : EReal)) * s) e2

/-- A block's part of a strip at row `m`, column `n`. -/
theorem part_apply (T : Fin 2 → Fin 8 → Vec Ideal S32x128 .i8) (s : EReal) (I : Fin 2 → Fin 4 → Vec Ideal S32x128 .i8)
    (X : Vec Ideal S256x256 .bf16) (B : Fin 2 → Fin 256 → BitVec 8)
    (hT : ∀ (c : Fin 2) (g : Fin 8) (r : Fin 32) (l : Fin 128), T c g (ix2 r l) = B c ⟨g.val * 32 + r.val, by omega⟩)
    (J : Fin 128 → Fin 256 → BitVec 8)
    (hI : ∀ (h : Fin 2) (k : Fin 4) (r : Fin 32) (l : Fin 128),
      I h k (ix2 r l) = J ⟨k.val * 32 + r.val, by omega⟩ ⟨h.val * 128 + l.val, by omega⟩)
    (m n : Fin 256) :
    part (F := Ideal) T s I X (ix2 m n)
      = ∑ k : Fin 256, X (ix2 m k)
          * ((((B ⟨k.val / 128, by omega⟩ (Spec.entry (J ⟨k.val % 128, Nat.mod_lt _ (by decide)⟩ n))).toInt : ℝ) : EReal)
            * s) := by
  have hn := n.isLt
  unfold part
  rw [shapeCast_self]
  refine (Ideal.matmul_plain_apply (M := 256) (K := 256) (N := 256) none X _ _ m n).trans ?_
  refine (congrArg₂ (· + ·) (show constant (F := Ideal) S256x256 .f32 0x00000000#32 (ix2 m n) = (0 : EReal) from ?_) rfl).trans ((zero_add _).trans ?_)
  · exact Ideal.ofBits_zero_f32
  refine Finset.sum_congr rfl fun k _ => congrArg (X (ix2 m k) * ·) ?_
  have hk := k.isLt
  by_cases h : n.val < 128
  · refine (concatenate_pair_apply_left (t := S256x256) (s₁ := S256x128) (s₂ := S256x128) (1 : Fin 2) _ _ _ (ix2 k n) rfl
      (ix2 k ⟨n.val, h⟩) (by intro a; match a with | ⟨0, _⟩ => rfl | ⟨1, _⟩ => rfl)).trans ?_
    rw [col_apply T s (I 0) B hT (fun r l => J r ⟨0 * 128 + l.val, by omega⟩) (fun k r l => hI 0 k r l)]
    have e : (⟨0 * 128 + n.val, by omega⟩ : Fin 256) = n := Fin.ext (by show 0 * 128 + n.val = n.val; omega)
    exact congrArg (fun z => ((((B _ (Spec.entry (J _ z))).toInt : ℝ) : EReal)) * s) e
  · refine (concatenate_pair_apply_right (t := S256x256) (s₁ := S256x128) (s₂ := S256x128) (1 : Fin 2) _ _ _ (ix2 k n) rfl rfl
      (ix2 k ⟨n.val - 128, by omega⟩)
      (by intro a ha; match a with | ⟨0, _⟩ => rfl | ⟨1, _⟩ => exact absurd rfl ha)
      (by show n.val - 128 + 128 = n.val; omega)).trans ?_
    rw [col_apply T s (I 1) B hT (fun r l => J r ⟨1 * 128 + l.val, by omega⟩) (fun k r l => hI 1 k r l)]
    have e : (⟨1 * 128 + (n.val - 128), by omega⟩ : Fin 256) = n := Fin.ext (by show 1 * 128 + (n.val - 128) = n.val; omega)
    exact congrArg (fun z => ((((B _ (Spec.entry (J _ z))).toInt : ℝ) : EReal)) * s) e

/-- What one grid point's result holds at row `m`, column `n` of its 1024 columns, from the point's blocks of scales,
    codebook, activations, indices and column scales: four blocks of 256 products each, times the column's scale. -/
def Yblk (x0 : S4.Idx → EReal) (x1 : S4x256x2.Idx → BitVec 8) (x2 : S256x1024.Idx → EReal)
    (x3 : S512x1024.Idx → BitVec 8) (x4 : S1x1024.Idx → EReal) (m : Fin 256) (n : Fin 1024) : EReal :=
  (∑ b : Fin 4, ∑ k : Fin 256, x2 (ix2 m ⟨b.val * 256 + k.val, by omega⟩)
    * ((((x1 (ix3 b (Spec.entry (x3 (ix2 ⟨b.val * 128 + k.val % 128, by omega⟩ n))) ⟨k.val / 128, by omega⟩)).toInt : ℝ) : EReal)
      * x0 (ix1 b))) * x4 (ix2 (0 : Fin 1) n)

/-- A strip at row `m`, column `n`, when its loads read the point's blocks: `Yblk` at the strip's place. -/
theorem strip_apply (x0 : S4.Idx → EReal) (x1 : S4x256x2.Idx → BitVec 8) (x2 : S256x1024.Idx → EReal)
    (x3 : S512x1024.Idx → BitVec 8) (x4 : S1x1024.Idx → EReal) (q : Fin 4)
    (T : Fin 4 → Fin 2 → Fin 8 → Vec Ideal S32x128 .i8) (s : Fin 4 → Elt Ideal .f32)
    (I : Fin 4 → Fin 2 → Fin 4 → Vec Ideal S32x128 .i8) (X : Fin 4 → Vec Ideal S256x256 .bf16)
    (S : Vec Ideal S1x256 .f32)
    (hT : ∀ (b : Fin 4) (c : Fin 2) (g : Fin 8) (r : Fin 32) (l : Fin 128),
      T b c g (ix2 r l) = x1 (ix3 b ⟨g.val * 32 + r.val, by omega⟩ c))
    (hs : ∀ b, s b = x0 (ix1 b))
    (hI : ∀ (b : Fin 4) (h : Fin 2) (k : Fin 4) (r : Fin 32) (l : Fin 128),
      I b h k (ix2 r l) = x3 (ix2 ⟨b.val * 128 + k.val * 32 + r.val, by omega⟩ ⟨q.val * 256 + h.val * 128 + l.val, by omega⟩))
    (hX : ∀ (b : Fin 4) (m k : Fin 256), X b (ix2 m k) = x2 (ix2 m ⟨b.val * 256 + k.val, by omega⟩))
    (hS : ∀ n : Fin 256, S (ix2 (0 : Fin 1) n) = x4 (ix2 (0 : Fin 1) ⟨q.val * 256 + n.val, by omega⟩))
    (m n : Fin 256) :
    strip (F := Ideal) T s I X S (ix2 m n) = Yblk x0 x1 x2 x3 x4 m ⟨q.val * 256 + n.val, by omega⟩ := by
  have hp : ∀ b : Fin 4, part (F := Ideal) (T b) (s b) (I b) (X b) (ix2 m n)
      = ∑ k : Fin 256, x2 (ix2 m ⟨b.val * 256 + k.val, by omega⟩)
        * ((((x1 (ix3 b (Spec.entry (x3 (ix2 ⟨b.val * 128 + k.val % 128, by omega⟩ ⟨q.val * 256 + n.val, by omega⟩)))
          ⟨k.val / 128, by omega⟩)).toInt : ℝ) : EReal) * x0 (ix1 b)) := fun b => by
    rw [part_apply (T b) (s b) (I b) (X b) (fun c e => x1 (ix3 b e c)) (fun c g r l => hT b c g r l)
      (fun r l => x3 (ix2 ⟨b.val * 128 + r.val, by omega⟩ ⟨q.val * 256 + l.val, by omega⟩)) (fun h k r l => by
        rw [hI]
        refine congrArg₂ (fun y z => x3 (ix2 y z)) (Fin.ext ?_) (Fin.ext ?_)
        · show b.val * 128 + k.val * 32 + r.val = b.val * 128 + (k.val * 32 + r.val); omega
        · show q.val * 256 + h.val * 128 + l.val = q.val * 256 + (h.val * 128 + l.val); omega)]
    simp only [hX, hs]
  unfold strip Yblk
  rw [Fin.sum_univ_four, shapeCast_self]
  have hb : broadcastTo S256x256 S broadcasts_S1x256_S256x256 (ix2 m n) = x4 (ix2 (0 : Fin 1) ⟨q.val * 256 + n.val, by omega⟩) := by
    rw [← hS]
    exact broadcastTo_apply _ _ _ (ix2 (0 : Fin 1) n) (by intro a; match a with | ⟨0, _⟩ => rfl | ⟨1, _⟩ => rfl)
  show (((part (F := Ideal) (T 0) (s 0) (I 0) (X 0) (ix2 m n) + part (F := Ideal) (T 1) (s 1) (I 1) (X 1) (ix2 m n))
    + part (F := Ideal) (T 2) (s 2) (I 2) (X 2) (ix2 m n)) + part (F := Ideal) (T 3) (s 3) (I 3) (X 3) (ix2 m n))
    * broadcastTo S256x256 S broadcasts_S1x256_S256x256 (ix2 m n) = _
  rw [hb, hp, hp, hp, hp]

end Cert.KernelIdeal.Block
-- ==== Proof.Table.lean ====
/- The tables: what the scratch holds after the first grid point, as a function of the codebook, and the loads of the
   body read at an index. -/
module

public import proofs.«01_k».proof.Proof.Point
public import Idealize.ShloMosaic.Lib.Pipeline.FrameBody
public import Idealize.ShloMosaic.Lib.Pipeline.Frame

@[expose] public section

noncomputable section

namespace Cert.KernelIdeal.Block

open Idealize.ShloMosaic Idealize.ShloMosaic.TcCoe Idealize.ShloMosaic.ValueIdx Cert.KernelIdeal Cert.KernelIdeal.Gen

/-- The 2048x128 array of tables: row `512 b + 256 c + e` holds component `c` of entry `e` of block `b` in every lane. -/
def TAB (x1 : Vec Ideal S4x256x2 .i8) : Vec Ideal S2048x128 .i8 := fun y =>
  x1 (ix3 ⟨(y 0).val / 512, Nat.div_lt_of_lt_mul (y 0).isLt⟩ ⟨(y 0).val % 256, Nat.mod_lt _ (by decide)⟩
    ⟨(y 0).val / 256 % 2, Nat.mod_lt _ (by decide)⟩)

/-- The array of tables at row `r` of table `g` of component `c` of block `b`. -/
theorem TAB_at (x1 : Vec Ideal S4x256x2 .i8) (b : Fin 4) (c : Fin 2) (g : Fin 8) (r : Fin 32) (l : Fin 128) :
    TAB x1 ((tabRect b c g).idx (ix2 r l)) = x1 (ix3 b ⟨g.val * 32 + r.val, by omega⟩ c) := by
  have := b.isLt; have := c.isLt; have := g.isLt; have := r.isLt
  have e : (((tabRect b c g).idx (ix2 r l)) 0).val = ((b.val * 2 + c.val) * 8 + g.val) * 32 + 1 * r.val := rfl
  unfold TAB
  refine congrArg x1 (funext fun a => Fin.ext ?_)
  match a with
  | ⟨0, _⟩ => show (((tabRect b c g).idx (ix2 r l)) 0).val / 512 = b.val; rw [e]; omega
  | ⟨1, _⟩ => show (((tabRect b c g).idx (ix2 r l)) 0).val % 256 = g.val * 32 + r.val; rw [e]; omega
  | ⟨2, _⟩ => show (((tabRect b c g).idx (ix2 r l)) 0).val / 256 % 2 = c.val; rw [e]; omega

/-- One table at row `r`, lane `l`: the word of row `r` of the column it is made of. -/
theorem tabVal_apply (v : Vec Ideal S1x32x1 .i8) (r : Fin 32) (l : Fin 128) :
    tabVal (F := Ideal) v (ix2 r l) = v (ix3 (0 : Fin 1) r (0 : Fin 1)) := by
  unfold tabVal
  rw [shapeCast_self, shapeCast_self]
  have hb : ∀ x : IVec S32x1 32, broadcastTo S32x128 x broadcasts_S32x1_S32x128 (ix2 r l) = x (ix2 r (0 : Fin 1)) := fun x =>
    broadcastTo_apply _ _ _ (ix2 r (0 : Fin 1)) (by intro a; match a with | ⟨0, _⟩ => rfl | ⟨1, _⟩ => rfl)
  show (broadcastTo S32x128 _ broadcasts_S32x1_S32x128 (ix2 r l) : BitVec 32).setWidth 8 = _
  rw [hb]
  have hc : shapeCast S32x1 v shapeCasts_S1x32x1_S32x1 (ix2 r (0 : Fin 1)) = v (ix3 (0 : Fin 1) r (0 : Fin 1)) :=
    shapeCast_apply _ _ _ _ (by
      rw [Shape.rowMajor_val_three, Shape.rowMajor_val_two]
      show (0 * 32 + r.val) * 1 + 0 = r.val * 1 + 0
      omega)
  show ((shapeCast S32x1 v shapeCasts_S1x32x1_S32x1 (ix2 r (0 : Fin 1)) : BitVec 8).signExtend 32).setWidth 8 = _
  rw [hc]
  generalize (v (ix3 (0 : Fin 1) r (0 : Fin 1)) : BitVec 8) = w
  revert w; decide

/-- Every piece of the first `n` table stores is one of the stores numbered below `n`. -/
theorem mem_tabPieces (C : Fin 4 → Fin 2 → Fin 8 → Vec Ideal S1x32x1 .i8) (n : ℕ) (p : View.Piece (Elt Ideal) S2048x128 .i8) :
    p ∈ tabPieces C n ↔ ∃ k, k < n ∧ p = tabPiece C k := by
  induction n with
  | zero => simp [tabPieces]
  | succ n ih =>
    simp only [tabPieces, List.mem_cons, ih]
    constructor
    · rintro (h | ⟨k, hk, h⟩)
      · exact ⟨n, Nat.lt_succ_self n, h⟩
      · exact ⟨k, Nat.lt_succ_of_lt hk, h⟩
    · rintro ⟨k, hk, h⟩
      by_cases e : k = n
      · exact Or.inl (e ▸ h)
      · exact Or.inr ⟨k, by omega, h⟩

/-- The 64 table stores, made of the codebook's columns, leave the array of tables. -/
theorem canon_tables (x1 : Vec Ideal S4x256x2 .i8) (C : Fin 4 → Fin 2 → Fin 8 → Vec Ideal S1x32x1 .i8)
    (hC : ∀ (b : Fin 4) (c : Fin 2) (g : Fin 8) (r : Fin 32),
      C b c g (ix3 (0 : Fin 1) r (0 : Fin 1)) = x1 (ix3 b ⟨g.val * 32 + r.val, by omega⟩ c)) (y : S2048x128.Idx) :
    View.canon (tabPieces C 64) y = TAB x1 y := by
  refine View.canon_apply_of_pieces (TAB x1) _ (fun p hp => ?_) y ?_
  · obtain ⟨k, -, rfl⟩ := (mem_tabPieces C 64 p).mp hp
    intro x
    obtain ⟨r, l, rfl⟩ : ∃ (r : Fin 32) (l : Fin 128), x = ix2 r l := ⟨x 0, x 1, by
      funext a; match a with | ⟨0, _⟩ => rfl | ⟨1, _⟩ => rfl⟩
    exact ((tabVal_apply _ r l).trans (hC _ _ _ r)).trans (TAB_at x1 _ _ _ r l).symm
  · have hy : (y 0).val < 2048 := (y 0).isLt
    refine ⟨tabPiece C ((y 0).val / 32), (mem_tabPieces C 64 _).mpr ⟨_, by omega, rfl⟩, ?_⟩
    have e : (tabPiece C ((y 0).val / 32)).1.idx (ix2 (⟨(y 0).val % 32, Nat.mod_lt _ (by decide)⟩ : Fin 32) (⟨(y 1).val, (y 1).isLt⟩ : Fin 128)) = y := by
      funext a
      apply Fin.ext
      match a with
      | ⟨0, _⟩ =>
        show (((y 0).val / 32 / 16 % 4 * 2 + (y 0).val / 32 / 8 % 2) * 8 + (y 0).val / 32 % 8) * 32 + 1 * ((y 0).val % 32) = (y 0).val
        omega
      | ⟨1, _⟩ =>
        show 0 + 1 * (y 1).val = (y 1).val
        omega
    have h := (tabPiece C ((y 0).val / 32)).1.toLoadRect.idx_mem (ix2 (⟨(y 0).val % 32, Nat.mod_lt _ (by decide)⟩ : Fin 32) (⟨(y 1).val, (y 1).isLt⟩ : Fin 128))
    rw [e] at h
    exact h

/-- The four strips stored over anything and read back hold `Yblk`, when the loads read the point's blocks. -/
theorem read_strips (v : View sig .tc .vmem S256x1024 .bf16) (x0 : Vec Ideal S4 .f32) (x1 : Vec Ideal S4x256x2 .i8) (x2 : Vec Ideal S256x1024 .bf16) (x3 : Vec Ideal S512x1024 .i8)
    (x4 : Vec Ideal S1x1024 .f32)
    (T : Fin 4 → Fin 2 → Fin 8 → Vec Ideal S32x128 .i8) (s : Fin 4 → Elt Ideal .f32)
    (I : Fin 4 → Fin 4 → Fin 2 → Fin 4 → Vec Ideal S32x128 .i8) (X : Fin 4 → Vec Ideal S256x256 .bf16)
    (S : Fin 4 → Vec Ideal S1x256 .f32)
    (hT : ∀ b c g, T b c g = fun j => TAB x1 ((tabRect b c g).idx j))
    (hs : ∀ b, s b = x0 (ix1 b))
    (hI : ∀ q b h k, I q b h k = fun j => x3 ((idxRect q b h k).idx j))
    (hX : ∀ b, X b = fun j => x2 ((colRect b).idx j))
    (hS : ∀ q, S q = fun j => x4 ((scaleRect q).idx j)) (m : Fin 256) (n : Fin 1024) :
    v.read (Elt Ideal) (v.writes (Elt Ideal) v.junk (strips T s I X S)) (ix2 m n) = Yblk x0 x1 x2 x3 x4 m n := by
  rw [View.read_writes_junk_apply_eq_canon]
  have hst : ∀ (q : Fin 4) (x : S256x256.Idx), strip (F := Ideal) T s (I q) X (S q) x
      = (fun y : S256x1024.Idx => Yblk x0 x1 x2 x3 x4 (y 0) (y 1)) ((colRect q).emb x) := fun q x => by
    obtain ⟨m, n, rfl⟩ : ∃ (m n : Fin 256), x = ix2 m n := ⟨x 0, x 1, by
      funext a; match a with | ⟨0, _⟩ => rfl | ⟨1, _⟩ => rfl⟩
    rw [strip_apply x0 x1 x2 x3 x4 q T s (I q) X (S q) (fun b c g r l => by rw [hT]; exact TAB_at x1 b c g r l) hs
      (fun b h k r l => by
        rw [hI]
        refine congrArg x3 (funext fun a => Fin.ext ?_)
        match a with
        | ⟨0, _⟩ => show b.val * 128 + k.val * 32 + 1 * r.val = b.val * 128 + k.val * 32 + r.val; omega
        | ⟨1, _⟩ => show q.val * 256 + h.val * 128 + 1 * l.val = q.val * 256 + h.val * 128 + l.val; omega)
      (fun b m k => by
        rw [hX]
        refine congrArg x2 (funext fun a => Fin.ext ?_)
        match a with
        | ⟨0, _⟩ => show 0 + 1 * m.val = m.val; omega
        | ⟨1, _⟩ => show b.val * 256 + 1 * k.val = b.val * 256 + k.val; omega)
      (fun n => by
        rw [hS]
        refine congrArg x4 (funext fun a => Fin.ext ?_)
        match a with
        | ⟨0, _⟩ => rfl
        | ⟨1, _⟩ => show q.val * 256 + 1 * n.val = q.val * 256 + n.val; omega) m n]
    refine congrArg₂ (Yblk x0 x1 x2 x3 x4) (Fin.ext ?_) (Fin.ext ?_)
    · show m.val = 0 + 1 * m.val; omega
    · show q.val * 256 + n.val = q.val * 256 + 1 * n.val; omega
  refine (View.canon_apply_of_pieces (fun y : S256x1024.Idx => Yblk x0 x1 x2 x3 x4 (y 0) (y 1)) _ (fun p hp => ?_) (ix2 m n) ?_).trans rfl
  · simp only [strips, List.mem_cons, List.not_mem_nil, or_false] at hp
    rcases hp with rfl | rfl | rfl | rfl
    · exact hst 3
    · exact hst 2
    · exact hst 1
    · exact hst 0
  · have hn := n.isLt
    let q : Fin 4 := ⟨n.val / 256, by omega⟩
    have e : (colRect q).idx (ix2 m (⟨n.val % 256, Nat.mod_lt _ (by decide)⟩ : Fin 256)) = ix2 m n := by
      funext a
      apply Fin.ext
      match a with
      | ⟨0, _⟩ => show 0 + 1 * m.val = m.val; omega
      | ⟨1, _⟩ => show n.val / 256 * 256 + 1 * (n.val % 256) = n.val; omega
    have h := (colRect q).toLoadRect.idx_mem (ix2 m (⟨n.val % 256, Nat.mod_lt _ (by decide)⟩ : Fin 256))
    rw [e] at h
    refine ⟨⟨colRect q, strip (F := Ideal) T s (I q) X (S q)⟩, ?_, h⟩
    have hq : ∀ q : Fin 4, (⟨colRect q, strip (F := Ideal) T s (I q) X (S q)⟩ : View.Piece (Elt Ideal) S256x1024 .bf16) ∈ strips T s I X S := by
      intro q
      simp only [strips, List.mem_cons, List.not_mem_nil, or_false]
      match q with
      | ⟨0, _⟩ => exact Or.inr (Or.inr (Or.inr rfl))
      | ⟨1, _⟩ => exact Or.inr (Or.inr (Or.inl rfl))
      | ⟨2, _⟩ => exact Or.inr (Or.inl rfl)
      | ⟨3, _⟩ => exact Or.inl rfl
    exact hq q

end Cert.KernelIdeal.Block
-- ==== Proof.PiecesA.lean ====
/- What the run finds at the first grid point, as the strips of Block.lean: the same loads, the same
   operations, in their structured form. -/
module

public import proofs.«01_k».proof.Proof.Block
public import proofs.«01_k».proof.Proof.Gen.KernelIdeal.Frame.RunA

@[expose] public section

set_option maxRecDepth 65536

noncomputable section

namespace Cert.KernelIdeal.Block

open Idealize.ShloMosaic Idealize.ShloMosaic.TcCoe Cert.KernelIdeal Cert.KernelIdeal.Gen

variable {F : FTy → Type} [FloatOps F]

/-- At the first point the 64 tables are stored into the scratch, from the codebook's words. -/
theorem tables_A (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : cond0_0 i)
    (x0 : Vec F S4 .f32) (x1 : Vec F S4x256x2 .i8) (x2 : Vec F S256x1024 .bf16) (x3 : Vec F S512x1024 .i8)
    (x4 : Vec F S1x1024 .f32) :
    (kernelRun0_A c i arg1 harg1 arg2 harg2 arg3 harg3 arg4 harg4 arg5 harg5 arg6 harg6 arg7 harg7 hc0
        x0 x1 x2 x3 x4).2.1
      = tabPieces (fun b d g => View.readAt (Elt F) arg2.view (bookRect b d g).toLoadRect (harg2.unread x1)) 64 := by
  sl_kernel_rfl

/-- At the first point the pieces stored into the result's buffer are the four strips of the values loaded from the
    point's buffers and from the tables just stored. -/
theorem pieces_A (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : cond0_0 i)
    (x0 : Vec F S4 .f32) (x1 : Vec F S4x256x2 .i8) (x2 : Vec F S256x1024 .bf16) (x3 : Vec F S512x1024 .i8)
    (x4 : Vec F S1x1024 .f32) :
    (kernelRun0_A c i arg1 harg1 arg2 harg2 arg3 harg3 arg4 harg4 arg5 harg5 arg6 harg6 arg7 harg7 hc0
        x0 x1 x2 x3 x4).1
      = strips
          (fun b d g => arg7.view.readCov (tabPieces (fun b d g =>
            View.readAt (Elt F) arg2.view (bookRect b d g).toLoadRect (harg2.unread x1)) 64) (tabRect b d g).toLoadRect)
          (fun b => View.readAt (Elt F) arg1.view (wordRect b).toLoadRect (harg1.unread x0)
            (Shape.Idx.first (s := S1) (by decide)))
          (fun q b h k => View.readAt (Elt F) arg4.view (idxRect q b h k).toLoadRect (harg4.unread x3))
          (fun b => View.readAt (Elt F) arg3.view (colRect b).toLoadRect (harg3.unread x2))
          (fun q => View.readAt (Elt F) arg5.view (scaleRect q).toLoadRect (harg5.unread x4)) := by
  sl_kernel_rfl

end Cert.KernelIdeal.Block
-- ==== Proof.PiecesB.lean ====
/- What the run finds at every grid point but the first, as the strips of Block.lean: the same loads, the same
   operations, in their structured form. -/
module

public import proofs.«01_k».proof.Proof.Block
public import proofs.«01_k».proof.Proof.Gen.KernelIdeal.Frame.RunB

@[expose] public section

set_option maxRecDepth 65536

noncomputable section

namespace Cert.KernelIdeal.Block

open Idealize.ShloMosaic Idealize.ShloMosaic.TcCoe Cert.KernelIdeal Cert.KernelIdeal.Gen

variable {F : FTy → Type} [FloatOps F]

/-- At a point that is not the first, the pieces stored into the result's buffer are the four strips of the values
    loaded from the point's buffers and from the tables the scratch holds. -/
theorem pieces_B (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : ¬cond0_0 i)
    (x0 : Vec F S4 .f32) (x1 : Vec F S4x256x2 .i8) (x2 : Vec F S256x1024 .bf16) (x3 : Vec F S512x1024 .i8)
    (x4 : Vec F S1x1024 .f32) (xs0 : Vec F S2048x128 .i8) :
    (kernelRun0_B c i arg1 harg1 arg2 harg2 arg3 harg3 arg4 harg4 arg5 harg5 arg6 harg6 arg7 harg7 hc0
        x0 x1 x2 x3 x4 xs0).1
      = strips
          (fun b d g => View.readAt (Elt F) arg7.view (tabRect b d g).toLoadRect (harg7.unread xs0))
          (fun b => View.readAt (Elt F) arg1.view (wordRect b).toLoadRect (harg1.unread x0)
            (Shape.Idx.first (s := S1) (by decide)))
          (fun q b h k => View.readAt (Elt F) arg4.view (idxRect q b h k).toLoadRect (harg4.unread x3))
          (fun b => View.readAt (Elt F) arg3.view (colRect b).toLoadRect (harg3.unread x2))
          (fun q => View.readAt (Elt F) arg5.view (scaleRect q).toLoadRect (harg5.unread x4)) := by
  sl_kernel_rfl

end Cert.KernelIdeal.Block
-- ==== Proof.Outs.lean ====
/- What each case of the body leaves in the result's buffer and in the scratch, and hence what every grid point leaves. -/
module

public import proofs.«01_k».proof.Proof.Table
public import proofs.«01_k».proof.Proof.PiecesA
public import proofs.«01_k».proof.Proof.PiecesB
public import proofs.«01_k».proof.Proof.Gen.KernelIdeal.Frame

@[expose] public section

noncomputable section

namespace Cert.KernelIdeal.Block

open Idealize.ShloMosaic Idealize.ShloMosaic.TcCoe Idealize.ShloMosaic.ValueIdx Cert.KernelIdeal Cert.KernelIdeal.Gen

/-- A load through a whole buffer holding `x` reads `x` at the loaded places. -/
theorem load_whole {κ : Kind} {sp : Space} {s : Shape} {e : EltTy} (a : Memref sig κ sp s e) (h : a.IsWhole) (x : Vec Ideal s e)
    (r : LoadRect s) : View.readAt (Elt Ideal) a.view r (h.unread x) = fun j => x (r.idx j) := by
  funext j
  rw [View.readAt_apply, h.read_unread]

/-- The scale word of a block, loaded. -/
theorem load_word (a : Memref sig .tc .smem S4 .f32) (h : a.IsWhole) (x : Vec Ideal S4 .f32) (b : Fin 4) :
    View.readAt (Elt Ideal) a.view (wordRect b).toLoadRect (h.unread x) (Shape.Idx.first (s := S1) (by decide)) = x (ix1 b) := by
  rw [load_whole]
  refine congrArg x (funext fun a => Fin.ext ?_)
  match a with
  | ⟨0, _⟩ => show b.val + 1 * 0 = b.val; omega

/-- The codebook's column, loaded, at row `r`. -/
theorem load_book (a : Memref sig .tc .vmem S4x256x2 .i8) (h : a.IsWhole) (x : Vec Ideal S4x256x2 .i8) (b : Fin 4) (c : Fin 2)
    (g : Fin 8) (r : Fin 32) :
    View.readAt (Elt Ideal) a.view (bookRect b c g).toLoadRect (h.unread x) (ix3 (0 : Fin 1) r (0 : Fin 1))
      = x (ix3 b ⟨g.val * 32 + r.val, by omega⟩ c) := by
  rw [load_whole]
  refine congrArg x (funext fun a => Fin.ext ?_)
  match a with
  | ⟨0, _⟩ => show b.val + 1 * 0 = b.val; omega
  | ⟨1, _⟩ => show g.val * 32 + 1 * r.val = g.val * 32 + r.val; omega
  | ⟨2, _⟩ => show c.val + 1 * 0 = c.val; omega

/-- After the first point the scratch holds the array of tables of the codebook block. -/
theorem sout_A (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : cond0_0 i)
    (x0 : Vec Ideal S4 .f32) (x1 : Vec Ideal S4x256x2 .i8) (x2 : Vec Ideal S256x1024 .bf16) (x3 : Vec Ideal S512x1024 .i8)
    (x4 : Vec Ideal S1x1024 .f32) :
    sout0_A_0 (F := Ideal) c i arg1 harg1 arg2 harg2 arg3 harg3 arg4 harg4 arg5 harg5 arg6 harg6 arg7 harg7 hc0 x0 x1 x2 x3 x4 = TAB x1 := by
  funext y
  unfold sout0_A_0
  rw [tables_A, View.read_writes_junk_apply_eq_canon]
  exact canon_tables x1 _ (fun b c g r => load_book arg2 harg2 x1 b c g r) y

/-- After the first point the result's buffer holds `Yblk` of the point's blocks. -/
theorem out_A (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : cond0_0 i)
    (x0 : Vec Ideal S4 .f32) (x1 : Vec Ideal S4x256x2 .i8) (x2 : Vec Ideal S256x1024 .bf16) (x3 : Vec Ideal S512x1024 .i8)
    (x4 : Vec Ideal S1x1024 .f32) (m : Fin 256) (n : Fin 1024) :
    out0_A_5 (F := Ideal) c i arg1 harg1 arg2 harg2 arg3 harg3 arg4 harg4 arg5 harg5 arg6 harg6 arg7 harg7 hc0 x0 x1 x2 x3 x4 (ix2 m n)
      = Yblk x0 x1 x2 x3 x4 m n := by
  unfold out0_A_5
  rw [pieces_A]
  refine read_strips VO0_5 x0 x1 x2 x3 x4 _ _ _ _ _ (fun b c g => ?_) (fun b => load_word arg1 harg1 x0 b)
    (fun q b h k => load_whole _ _ _ _) (fun b => load_whole _ _ _ _) (fun q => load_whole _ _ _ _) m n
  rw [View.readCov_eq_canon']
  funext j
  exact canon_tables x1 _ (fun b c g r => load_book arg2 harg2 x1 b c g r) _

/-- After any other point, with the array of tables in the scratch, the result's buffer holds `Yblk` of the point's
    blocks. -/
theorem out_B (c : Dev nD) (i : grid0.Coords) (arg1 : Memref sig .tc .smem S4 .f32) (harg1 : arg1.IsWhole) (arg2 : Memref sig .tc .vmem S4x256x2 .i8)
    (harg2 : arg2.IsWhole) (arg3 : Memref sig .tc .vmem S256x1024 .bf16) (harg3 : arg3.IsWhole)
    (arg4 : Memref sig .tc .vmem S512x1024 .i8) (harg4 : arg4.IsWhole) (arg5 : Memref sig .tc .vmem S1x1024 .f32)
    (harg5 : arg5.IsWhole) (arg6 : Memref sig .tc .vmem S256x1024 .bf16) (harg6 : arg6.IsWhole)
    (arg7 : Memref sig .tc .vmem S2048x128 .i8) (harg7 : arg7.IsWhole) (hc0 : ¬cond0_0 i)
    (x0 : Vec Ideal S4 .f32) (x1 : Vec Ideal S4x256x2 .i8) (x2 : Vec Ideal S256x1024 .bf16) (x3 : Vec Ideal S512x1024 .i8)
    (x4 : Vec Ideal S1x1024 .f32) (m : Fin 256) (n : Fin 1024) :
    out0_B_5 (F := Ideal) c i arg1 harg1 arg2 harg2 arg3 harg3 arg4 harg4 arg5 harg5 arg6 harg6 arg7 harg7 hc0 x0 x1 x2 x3 x4 (TAB x1) (ix2 m n)
      = Yblk x0 x1 x2 x3 x4 m n := by
  unfold out0_B_5
  rw [pieces_B]
  exact read_strips VO0_5 x0 x1 x2 x3 x4 _ _ _ _ _ (fun b c g => load_whole _ _ _ _) (fun b => load_word arg1 harg1 x0 b)
    (fun q b h k => load_whole _ _ _ _) (fun b => load_whole _ _ _ _) (fun q => load_whole _ _ _ _) m n

end Cert.KernelIdeal.Block
-- ==== Proof.Array.lean ====
/- What the region leaves in its result array: at every row and column, a function of the arrays the region finds. -/
module

public import proofs.«01_k».proof.Proof.Outs
public import Idealize.ShloMosaic.Lib.Pipeline.ValueKit

@[expose] public section

noncomputable section

namespace Cert.KernelIdeal.Block

open Idealize.ShloMosaic hiding ix1 ix2 ix3
open Idealize.ShloMosaic.TcCoe Idealize.ShloMosaic.ValueIdx Cert.KernelIdeal Cert.KernelIdeal.Gen

variable (m : (ℓ : Loc nD τ sig) → Buf (Elt Ideal) ℓ)

/-- The row and column blocks the windows read or write at point `t`. -/
theorem index0 : ∀ t : Fin cfg0.N, win0_0.index t = ![0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)

/-- Every point's block of scales is the whole array. -/
theorem iblk0 (c : Dev nD) (t : Fin cfg0.N) (b : Fin 4) : iblk m c 0 t (ix1 b) = V m c main_v3 (ix1 b) := by
  blk_ext [iblk, index0]

/-- Every point's block of the codebook is the whole array. -/
theorem iblk1 (c : Dev nD) (t : Fin cfg0.N) : (iblk m c 1 t : S4x256x2.Idx → BitVec 8) = V m c main_arg2 := by
  funext y
  blk_ext [iblk, index1]

/-- Every point's block of activations is the whole array. -/
theorem iblk2 (c : Dev nD) (t : Fin cfg0.N) (r : Fin 256) (k : Fin 1024) :
    iblk m c 2 t (ix2 r k) = V m c main_v2 (ix2 r k) := by
  blk_ext [iblk, index2]

/-- Point `t`'s block of indices is columns `1024 t` and on. -/
theorem iblk3 (c : Dev nD) (t : Fin cfg0.N) (ht : t.val < 26) (r : Fin 512) (n : Fin 1024) :
    iblk m c 3 t (ix2 r n) = V m c main_arg1 (ix2 r (⟨t.val * 1024 + n.val, by omega⟩ : Fin 26624)) := by
  blk_ext [iblk, index3]

/-- Point `t`'s block of column scales is columns `1024 t` and on. -/
theorem iblk4 (c : Dev nD) (t : Fin cfg0.N) (ht : t.val < 26) (n : Fin 1024) :
    iblk m c 4 t (ix2 (0 : Fin 1) n) = V m c main_v4 (ix2 (0 : Fin 1) (⟨t.val * 1024 + n.val, by omega⟩ : Fin 26624)) := by
  blk_ext [iblk, index4]

/-- The region's result at row `r`, column `n`, from the arrays of scales, codebook, activations, indices and column
    scales: four blocks of 256 products each, times the column's scale. -/
def YK (a0 : S4.Idx → EReal) (a1 : S4x256x2.Idx → BitVec 8) (a2 : S256x1024.Idx → EReal)
    (a3 : S512x26624.Idx → BitVec 8) (a4 : S1x26624.Idx → EReal) (r : Fin 256) (n : Fin 26624) : EReal :=
  (∑ b : Fin 4, ∑ k : Fin 256, a2 (ix2 r ⟨b.val * 256 + k.val, by omega⟩)
    * ((((a1 (ix3 b (Spec.entry (a3 (ix2 ⟨b.val * 128 + k.val % 128, by omega⟩ n))) ⟨k.val / 128, by omega⟩)).toInt : ℝ) : EReal)
      * a0 (ix1 b))) * a4 (ix2 (0 : Fin 1) n)

/-- `Yblk` of the blocks of point `t` is `YK` of the arrays at the point's columns. -/
theorem Yblk_eq (c : Dev nD) (t : Fin cfg0.N) (ht : t.val < 26) (r : Fin 256) (n : Fin 1024) :
    Yblk (iblk m c 0 t) (iblk m c 1 t) (iblk m c 2 t) (iblk m c 3 t) (iblk m c 4 t) r n
      = YK (V m c main_v3) (V m c main_arg2) (V m c main_v2) (V m c main_arg1) (V m c main_v4) r
          ⟨t.val * 1024 + n.val, by omega⟩ := by
  unfold Yblk YK
  rw [iblk4 m c t ht]
  refine congrArg (· * _) (Finset.sum_congr rfl fun b _ => Finset.sum_congr rfl fun k _ => ?_)
  rw [iblk0, iblk2, iblk1, iblk3 m c t ht]

/-- After every point the scratch holds the array of tables of the codebook. -/
theorem scratch (c : Dev nD) : ∀ (n : ℕ) (hn : n < cfg0.N), (outsAt0 m c n hn).2 = TAB (V m c main_arg2)
  | 0, hn => by
    rw [outsAt0_A m c ⟨0, hn⟩ (Nat.zero_mod _)]
    dsimp only
    rw [sout_A, iblk1]
  | n + 1, hn => by
    have h26 : n + 1 < 26 := lt_of_lt_of_eq hn (show cfg0.N = 26 from N_0)
    rw [outsAt0_B m c ⟨n + 1, hn⟩ (by show ¬(n + 1) % 26 = 0; omega)]
    exact scratch c n (Nat.lt_of_succ_lt hn)

/-- After point `t` the result's buffer holds `YK` at the point's columns. -/
theorem out_point (c : Dev nD) (t : Fin cfg0.N) (ht : t.val < 26) (r : Fin 256) (n : Fin 1024) :
    (outsAt0 m c t.val t.isLt).1 (ix2 r n)
      = YK (V m c main_v3) (V m c main_arg2) (V m c main_v2) (V m c main_arg1) (V m c main_v4) r
          ⟨t.val * 1024 + n.val, by omega⟩ := by
  rw [← Yblk_eq m c t ht]
  by_cases h : t.val % 26 = 0
  · rw [outsAt0_A m c t h]
    dsimp only
    exact out_A _ _ _ _ _ _ _ _ _ _ _ _ _ _ _ _ _ _ _ _ _ _ _ _
  · rw [outsAt0_B m c t h]
    dsimp only
    rw [scratch, ← iblk1 m c t]
    exact out_B _ _ _ _ _ _ _ _ _ _ _ _ _ _ _ _ _ _ _ _ _ _ _ _

/-- After the run the region's result array holds `YK` everywhere. -/
theorem final (c : Dev nD) : (dats m 0 c).arrAt 5 cfg0.N
    = fun y : S256x26624.Idx => YK (V m c main_v3) (V m c main_arg2) (V m c main_v2) (V m c main_arg1) (V m c main_v4) (y 0) (y 1) := by
  refine (dats m 0 c).arrAt_eq_of_covers 5 _ (by decide +kernel) fun t hf y => ?_
  have ht : t.val < 26 := lt_of_lt_of_eq t.isLt (show cfg0.N = 26 from N_0)
  blk_simp
  rw [after0_5]
  obtain ⟨r, n, rfl⟩ : ∃ (r : Fin 256) (n : Fin 1024), y = ix2 r n := ⟨y 0, y 1, by
    funext a; match a with | ⟨0, _⟩ => rfl | ⟨1, _⟩ => rfl⟩
  refine (out_point m c t ht r n).trans ?_
  refine congrArg₂ (YK _ _ _ _ _) (Fin.ext ?_) (Fin.ext ?_)
  · blk_simp [index5]
  · blk_simp [index5]

end Cert.KernelIdeal.Block
-- ==== Proof.Host.lean ====
/- The operations of the program around the region: the three arrays made before it, at an index, and the result made
   after it, at an index. -/
module

public import proofs.«01_k».proof.Proof.Array

@[expose] public section

noncomputable section

namespace Cert.KernelIdeal.Block

open Idealize.ShloMosaic hiding ix1 ix2 ix3 ix4
open Idealize.ShloMosaic.TcCoe Idealize.ShloMosaic.ValueIdx Idealize.SL.Sem Cert.KernelIdeal Cert.KernelIdeal.Gen

variable (m : (ℓ : Loc nD τ sig) → Buf (Elt Ideal) ℓ)

/-- The activations as the region finds them: within each block of 256, the even components first and the odd ones after. -/
theorem V_v2 (c : Dev nD) : (V m c main_v2 : S256x1024.Idx → EReal)
    = shapeCast S256x1024 (transpose S256x4x2x128 [0, 1, 3, 2]
        (shapeCast S256x4x128x2 (m ((c : Thread nD τ).loc main_arg0) : S1x256x1024.Idx → EReal) shapeCasts_S1x256x1024_S256x4x128x2)
        transposes_S256x4x128x2_S256x4x2x128_0_1_3_2) shapeCasts_S256x4x2x128_S256x1024 := by
  show StableHlo.after hostOps0 (fun b => m (c, b)) (Proc.devRef .tc main_v2) = _
  after_results
  rfl

/-- Position `256 b + 128 k + q` of row `r` of that array is activation `2 (128 b + q) + k` of the row. -/
theorem act_at (c : Dev nD) (r : Fin 256) (b : Fin 4) (k : Fin 2) (q : Fin 128) (h1 : b.val * 256 + (k.val * 128 + q.val) < 1024)
    (h2 : 2 * (b.val * 128 + q.val) + k.val < 1024) :
    (V m c main_v2 : S256x1024.Idx → EReal) (ix2 r ⟨b.val * 256 + (k.val * 128 + q.val), h1⟩)
      = (m ((c : Thread nD τ).loc main_arg0) : S1x256x1024.Idx → EReal) (ix3 (0 : Fin 1) r ⟨2 * (b.val * 128 + q.val) + k.val, h2⟩) := by
  rw [V_v2]
  refine (shapeCast_apply _ _ _ (ix4 r b k q) (by
    rw [Shape.rowMajor_val_four, Shape.rowMajor_val_two]
    show ((r.val * 4 + b.val) * 2 + k.val) * 128 + q.val = r.val * 1024 + (b.val * 256 + (k.val * 128 + q.val)); ring)).trans ?_
  refine (transpose_apply _ _ _ _ (ix4 r b q k) (by
    intro a; match a with | ⟨0, _⟩ => rfl | ⟨1, _⟩ => rfl | ⟨2, _⟩ => rfl | ⟨3, _⟩ => rfl)).trans ?_
  exact shapeCast_apply _ _ _ (ix3 (0 : Fin 1) r _) (by
    rw [Shape.rowMajor_val_four, Shape.rowMajor_val_three]
    show (0 * 256 + r.val) * 1024 + (2 * (b.val * 128 + q.val) + k.val) = ((r.val * 4 + b.val) * 128 + q.val) * 2 + k.val; ring)

/-- The scales as the region finds them are the argument's: the widening is the identity on extended reals. -/
theorem V_v3 (c : Dev nD) : (V m c main_v3 : S4.Idx → EReal) = (m ((c : Thread nD τ).loc main_arg3) : S4.Idx → EReal) := by
  show StableHlo.after hostOps0 (fun b => m (c, b)) (Proc.devRef .tc main_v3) = _
  after_results
  rfl

/-- The column scales as the region finds them are the argument's with an axis of one in front. -/
theorem V_v4 (c : Dev nD) (n : Fin 26624) : (V m c main_v4 : S1x26624.Idx → EReal) (ix2 (0 : Fin 1) n)
    = (m ((c : Thread nD τ).loc main_arg4) : S26624.Idx → EReal) (ix1 n) := by
  have e : (V m c main_v4 : S1x26624.Idx → EReal)
      = shapeCast S1x26624 (m ((c : Thread nD τ).loc main_arg4) : S26624.Idx → EReal) shapeCasts_S26624_S1x26624 := by
    show StableHlo.after hostOps0 (fun b => m (c, b)) (Proc.devRef .tc main_v4) = _
    after_results
    rfl
  rw [e]
  exact shapeCast_apply _ _ _ (ix1 n) (by
    rw [Shape.rowMajor_val_one, Shape.rowMajor_val_two]
    show n.val = 0 * 26624 + n.val; omega)

/-- The program's result is the region's, with an axis of one in front. -/
theorem tail (c : Dev nD) (r : Fin 256) (n : Fin 26624) :
    (Pipeline.afterTail₀ cfgs (dats m) 0 (V0 m) [hostOps1] c main_v6 : S1x256x26624.Idx → EReal) (ix3 (0 : Fin 1) r n)
      = YK (V m c main_v3) (V m c main_arg2) (V m c main_v2) (V m c main_arg1) (V m c main_v4) r n := by
  have e : (Pipeline.afterTail₀ cfgs (dats m) 0 (V0 m) [hostOps1] c main_v6 : S1x256x26624.Idx → EReal)
      = shapeCast S1x256x26624 ((dats m 0 c).arrAt 5 cfg0.N : S256x26624.Idx → EReal) shapeCasts_S256x26624_S1x256x26624 := by
    rw [← Pipeline.withArrays_arr spec0 launch0.win.arr_inj c (V0 m c) (fun w => (dats m 0 c).arrAt w cfg0.N) 5]
    show StableHlo.after hostOps1 (Pipeline.withArrays spec0 c (V0 m c) fun w => (dats m 0 c).arrAt w cfg0.N) (Proc.devRef .tc main_v6) = _
    after_results
    rfl
  rw [e, final]
  exact shapeCast_apply _ _ _ (ix2 r n) (by
    rw [Shape.rowMajor_val_two, Shape.rowMajor_val_three]
    show r.val * 26624 + n.val = (0 * 256 + r.val) * 26624 + n.val; ring)

end Cert.KernelIdeal.Block
-- ==== Proof.Equation.lean ====
/- The two ways of summing agree: four blocks of 256 products, even components before odd ones within a block, against
   all 512 even products and then all 512 odd ones. -/
module

public import Mathlib.Algebra.BigOperators.Fin
public import Mathlib.Algebra.BigOperators.Group.Finset.Basic
public import Mathlib.Tactic.Ring

@[expose] public section

noncomputable section

namespace Cert.Equation

open Finset

variable {M : Type*} [AddCommMonoid M]

/-- A sum over `a * b` terms, by quotient and remainder. -/
theorem sum_split (a b n : ℕ) (h : a * b = n) (f : Fin n → M) :
    ∑ k : Fin n, f k = ∑ i : Fin a, ∑ j : Fin b, f ⟨i.val * b + j.val, by
      rw [← h]
      have hj := j.isLt
      have hi := Nat.mul_le_mul_right b (Nat.succ_le_of_lt i.isLt)
      rw [Nat.succ_mul] at hi
      omega⟩ := by
  subst h
  rw [← Fintype.sum_prod_type']
  refine (Fintype.sum_equiv finProdFinEquiv _ _ fun p => ?_).symm
  refine congrArg f (Fin.ext ?_)
  show p.1.val * b + p.2.val = p.2.val + b * p.1.val
  ring

/-- The re-indexing: the term at block `b`, position `c * 128 + q` of the block is the term of row pair `b * 128 + q`,
    component `c`. -/
theorem resum (f : Fin 4 → Fin 256 → M) (g : Fin 512 → Fin 2 → M)
    (h : ∀ (b : Fin 4) (c : Fin 2) (q : Fin 128), f b ⟨c.val * 128 + q.val, by omega⟩ = g ⟨b.val * 128 + q.val, by omega⟩ c) :
    ∑ b : Fin 4, ∑ k : Fin 256, f b k = ∑ j : Fin 512, g j 0 + ∑ j : Fin 512, g j 1 := by
  rw [sum_split 4 128 512 rfl (fun j => g j 0), sum_split 4 128 512 rfl (fun j => g j 1), ← sum_add_distrib]
  refine sum_congr rfl fun b _ => ?_
  rw [sum_split 2 128 256 rfl, Fin.sum_univ_two]
  exact congrArg₂ (· + ·) (sum_congr rfl fun q _ => h b 0 q) (sum_congr rfl fun q _ => h b 1 q)

end Cert.Equation
-- ==== Proof.Ref.lean ====
/- What the reference computes: each result element is `Spec.Y` of the arguments. -/
module

public import proofs.«01_k».proof.Proof.Gen.ReferenceIdeal.Read
public import proofs.«01_k».proof.Proof.Spec
public import Idealize.ShloMosaic.Lib.Layout

@[expose] public section

noncomputable section

namespace Cert.ReferenceIdeal.Closed

open Cert.ReferenceIdeal Cert.ReferenceIdeal.Gen Cert.ReferenceIdeal.Read Idealize.ShloMosaic Idealize.ShloMosaic.ValueIdx

/-- The gather's dimension numbers. -/
abbrev D := gather_S4x256x2_S4x128x26624x2_S4x128x26624x2_3_01_n_n_01_3_112

theorem D_si (b : Fin 4) (r : Fin 128) (n : Fin 26624) (c : Fin 2) (k : Fin 2) (h : k.val < D.startIndexMap.length) :
    D.siIdx (ix4 b r n c) ⟨k.val, h⟩ = ix4 b r n k := by
  funext a
  match a with
  | ⟨0, _⟩ => rfl
  | ⟨1, _⟩ => rfl
  | ⟨2, _⟩ => rfl
  | ⟨3, _⟩ => rfl

/-- The gather at an index: the operand at the two clamped start indices and the component kept. -/
theorem gather_at {α : Type} (x : S4x256x2.Idx → α) (idx : IVec S4x128x26624x2 32) (b : Fin 4) (r : Fin 128) (n : Fin 26624) (c : Fin 2)
    (b' : Fin 4) (e : Fin 256) (hb : min (idx (ix4 b r n (0 : Fin 2))).toInt.toNat 3 = b'.val)
    (he : min (idx (ix4 b r n (1 : Fin 2))).toInt.toNat 255 = e.val) :
    Host.gather D x idx (ix4 b r n c) = x (ix3 b' e c) := by
  unfold Host.gather
  congr 1
  funext a
  apply Fin.ext
  match a with
  | ⟨0, _⟩ =>
    show D.start (ix4 b r n c) idx 0 + D.batchCoord (ix4 b r n c) 0 + D.offCoord (ix4 b r n c) 0 = b'.val
    rw [← hb, D.batchCoord_eq_zero _ _ (show (0 : Fin 3) ∉ ([] : List (Fin 3)) by simp),
      D.offCoord_eq_zero _ _ (show (0 : Fin 3) ∉ D.sKept by decide), Nat.add_zero]
    unfold GatherDims.start
    rw [dif_pos (show (0 : Fin 3) ∈ D.startIndexMap by show _ ∈ ([0, 1] : List (Fin 3)); simp)]
    refine congrArg (fun i => min (idx i).toInt.toNat 3) ?_
    exact D_si b r n c 0 _
  | ⟨1, _⟩ =>
    show D.start (ix4 b r n c) idx 1 + D.batchCoord (ix4 b r n c) 1 + D.offCoord (ix4 b r n c) 1 = e.val
    rw [← he, D.batchCoord_eq_zero _ _ (show (1 : Fin 3) ∉ ([] : List (Fin 3)) by simp),
      D.offCoord_eq_zero _ _ (show (1 : Fin 3) ∉ D.sKept by decide), Nat.add_zero]
    unfold GatherDims.start
    rw [dif_pos (show (1 : Fin 3) ∈ D.startIndexMap by show _ ∈ ([0, 1] : List (Fin 3)); simp)]
    refine congrArg (fun i => min (idx i).toInt.toNat 255) ?_
    exact D_si b r n c 1 _
  | ⟨2, _⟩ =>
    show D.start (ix4 b r n c) idx 2 + D.batchCoord (ix4 b r n c) 2 + D.offCoord (ix4 b r n c) 2 = c.val
    exact Nat.zero_add _

/-- The block component of the start indices is the block number. -/
theorem idx_block (x1 : IVec S512x26624 8) (b : Fin 4) (r : Fin 128) (n : Fin 26624) :
    val_main_v23 (F := Ideal) x1 (ix4 b r n (0 : Fin 2)) = BitVec.ofNat 32 b.val := by
  unfold val_main_v23
  refine (concatenate_pair_apply_left (t := S4x128x26624x2) (s₁ := S4x128x26624x1) (s₂ := S4x128x26624x1) (3 : Fin 4) _ _ _ _ rfl
    (ix4 b r n (0 : Fin 1)) (by intro a; match a with | ⟨0, _⟩ => rfl | ⟨1, _⟩ => rfl | ⟨2, _⟩ => rfl | ⟨3, _⟩ => rfl)).trans ?_
  rw [val_main_v21_apply, val_main_v20_apply, val_main_v14_apply, val_main_v11_apply, val_main_v13_apply, val_main_v9_apply,
    val_main_v10_apply, val_main_v12_apply, val_main_v8_apply]
  show Scalar.select (IntOp.cmpi .slt (BitVec.ofNat 32 b.val) 0#32) (IntOp.addi (BitVec.ofNat 32 b.val) 4#32) (BitVec.ofNat 32 b.val) = _
  revert b; decide

/-- The entry component of the start indices is the index word, read unsigned. -/
theorem idx_entry (x1 : IVec S512x26624 8) (b : Fin 4) (r : Fin 128) (n : Fin 26624) (j : Fin 512) (hj : j.val = b.val * 128 + r.val) :
    val_main_v23 (F := Ideal) x1 (ix4 b r n (1 : Fin 2)) = (x1 (ix2 j n)).setWidth 32 := by
  unfold val_main_v23
  refine (concatenate_pair_apply_right (t := S4x128x26624x2) (s₁ := S4x128x26624x1) (s₂ := S4x128x26624x1) (3 : Fin 4) _ _ _ _ rfl rfl
    (ix4 b r n (0 : Fin 1)) (by intro a ha; match a with | ⟨0, _⟩ => rfl | ⟨1, _⟩ => rfl | ⟨2, _⟩ => rfl | ⟨3, _⟩ => exact absurd rfl ha) rfl).trans ?_
  rw [val_main_v22_apply, val_main_v19_apply, val_main_v16_apply, val_main_v18_apply, val_main_v7_apply]
  have e : idx_main_v6 (idx_main_v22 (ix4 b r n (0 : Fin 1))) = ix2 j n := by
    funext a
    apply Fin.ext
    match a with
    | ⟨0, _⟩ => show ((b.val * 128 + r.val) * 26624 + n.val) / 26624 = j.val; omega
    | ⟨1, _⟩ => show ((b.val * 128 + r.val) * 26624 + n.val) % 26624 = n.val; omega
  rw [val_main_v6_apply, e]
  have hs : IntOp.cmpi .slt ((x1 (ix2 j n)).setWidth 32) (val_main_v15 (F := Ideal) (idx_main_v22 (ix4 b r n (0 : Fin 1)))) = 0#1 := by
    rw [val_main_v15_apply, val_main_c_1_apply]
    generalize x1 (ix2 j n) = w
    revert w; decide
  rw [hs]; rfl

/-- The decoded weight array of the reference is `Spec.W`. -/
theorem decoded (x1 : IVec S512x26624 8) (x2 : IVec S4x256x2 8) (x3 : FVec Ideal S4 .bf16) (j : Fin 512) (n : Fin 26624) (c : Fin 2) :
    val_main_v25 (F := Ideal) x1 x2 x3 (ix3 j n c) = Spec.W x1 x2 x3 j n c := by
  have hj := j.isLt
  have hn := n.isLt
  have hc := c.isLt
  rw [val_main_v25_apply]
  have e : idx_main_v25 (ix3 j n c) = ix4 (Spec.blk j) (⟨j.val % 128, by omega⟩ : Fin 128) n c := by
    funext a
    apply Fin.ext
    match a with
    | ⟨0, _⟩ => show ((j.val * 26624 + n.val) * 2 + c.val) / 6815744 = j.val / 128; omega
    | ⟨1, _⟩ => show ((j.val * 26624 + n.val) * 2 + c.val) / 53248 % 128 = j.val % 128; omega
    | ⟨2, _⟩ => show ((j.val * 26624 + n.val) * 2 + c.val) / 2 % 26624 = n.val; omega
    | ⟨3, _⟩ => show ((j.val * 26624 + n.val) * 2 + c.val) % 2 = c.val; omega
  rw [e]
  unfold val_main_v24
  rw [gather_at _ _ _ _ _ _ (Spec.blk j) (Spec.entry (x1 (ix2 j n))) (by
      rw [idx_block]; generalize Spec.blk j = b; revert b; decide) (by
      rw [idx_entry x1 _ _ n j (by show j.val = j.val / 128 * 128 + j.val % 128; omega)]
      generalize x1 (ix2 j n) = w; revert w; decide)]
  rw [val_main_v5_apply, val_main_v2_apply, val_main_v1_apply, val_main_v0_apply, val_main_v4_apply, val_main_v3_apply]
  have et : ∀ w : BitVec 8, (w.signExtend 32).toInt = w.toInt := by decide
  show ((((x2 (ix3 (Spec.blk j) (Spec.entry (x1 (ix2 j n))) c)).signExtend 32).toInt : ℝ) : EReal) * x3 _ = _
  rw [et]
  unfold Spec.W
  congr 2
  funext a; match a with | ⟨0, _⟩ => rfl

/-- The activations the reference multiplies, at an index. -/
theorem even_act (x0 : FVec Ideal S1x256x1024 .bf16) (m : Fin 256) (j : Fin 512) :
    val_main_v32 (F := Ideal) x0 (ix3 (0 : Fin 1) m j) = Spec.X x0 m j 0 := by
  have hj := j.isLt
  have hm := m.isLt
  rw [val_main_v32_apply, val_main_v31_apply, val_main_v30_apply]
  unfold Spec.X
  congr 1
  funext a
  apply Fin.ext
  match a with
  | ⟨0, _⟩ => rfl
  | ⟨1, _⟩ =>
    show (((0 * 256 + ((0 * 256 + m.val) * 512 + j.val) / 512 % 256) * 512 + ((0 * 256 + m.val) * 512 + j.val) / 1 % 512) * 2 + 0) / 1024 % 256 = m.val
    omega
  | ⟨2, _⟩ =>
    show (((0 * 256 + ((0 * 256 + m.val) * 512 + j.val) / 512 % 256) * 512 + ((0 * 256 + m.val) * 512 + j.val) / 1 % 512) * 2 + 0) % 1024 = 2 * j.val + 0
    omega

theorem odd_act (x0 : FVec Ideal S1x256x1024 .bf16) (m : Fin 256) (j : Fin 512) :
    val_main_v34 (F := Ideal) x0 (ix3 (0 : Fin 1) m j) = Spec.X x0 m j 1 := by
  have hj := j.isLt
  have hm := m.isLt
  rw [val_main_v34_apply, val_main_v33_apply, val_main_v30_apply]
  unfold Spec.X
  congr 1
  funext a
  apply Fin.ext
  match a with
  | ⟨0, _⟩ => rfl
  | ⟨1, _⟩ =>
    show (((0 * 256 + ((0 * 256 + m.val) * 512 + j.val) / 512 % 256) * 512 + ((0 * 256 + m.val) * 512 + j.val) / 1 % 512) * 2 + (1 + 0)) / 1024 % 256 = m.val
    omega
  | ⟨2, _⟩ =>
    show (((0 * 256 + ((0 * 256 + m.val) * 512 + j.val) / 512 % 256) * 512 + ((0 * 256 + m.val) * 512 + j.val) / 1 % 512) * 2 + (1 + 0)) % 1024 = 2 * j.val + 1
    omega

/-- The even and the odd weights of the reference. -/
theorem even_w (x1 : IVec S512x26624 8) (x2 : IVec S4x256x2 8) (x3 : FVec Ideal S4 .bf16) (j : Fin 512) (n : Fin 26624) :
    val_main_v27 (F := Ideal) x1 x2 x3 (ix2 j n) = Spec.W x1 x2 x3 j n 0 := by
  have hj := j.isLt
  have hn := n.isLt
  rw [val_main_v27_apply, val_main_v26_apply, ← decoded]
  congr 1
  funext a
  apply Fin.ext
  match a with
  | ⟨0, _⟩ => show (j.val * 26624 + n.val) / 26624 = j.val; omega
  | ⟨1, _⟩ => show (j.val * 26624 + n.val) / 1 % 26624 = n.val; omega
  | ⟨2, _⟩ => rfl

theorem odd_w (x1 : IVec S512x26624 8) (x2 : IVec S4x256x2 8) (x3 : FVec Ideal S4 .bf16) (j : Fin 512) (n : Fin 26624) :
    val_main_v29 (F := Ideal) x1 x2 x3 (ix2 j n) = Spec.W x1 x2 x3 j n 1 := by
  have hj := j.isLt
  have hn := n.isLt
  rw [val_main_v29_apply, val_main_v28_apply, ← decoded]
  congr 1
  funext a
  apply Fin.ext
  match a with
  | ⟨0, _⟩ => show (j.val * 26624 + n.val) / 26624 = j.val; omega
  | ⟨1, _⟩ => show (j.val * 26624 + n.val) / 1 % 26624 = n.val; omega
  | ⟨2, _⟩ => rfl

/-- The reference's result at row `m`, column `n` is `Spec.Y` of the arguments. -/
theorem result (x0 : FVec Ideal S1x256x1024 .bf16) (x1 : IVec S512x26624 8) (x2 : IVec S4x256x2 8) (x3 : FVec Ideal S4 .bf16)
    (x4 : FVec Ideal S26624 .f32) (m : Fin 256) (n : Fin 26624) :
    val_main_v41 (F := Ideal) x0 x1 x2 x3 x4 (ix3 (0 : Fin 1) m n) = Spec.Y x0 x1 x2 x3 x4 m n := by
  rw [val_main_v41_apply, val_main_v40_apply, val_main_v37_apply, val_main_v35_apply, val_main_v36_apply, val_main_v39_apply, val_main_v38_apply]
  have e1 : ∀ k : Fin 512, lidx_main_v35 (ix3 (0 : Fin 1) m n) k = ix3 (0 : Fin 1) m k := fun k => by
    funext a; match a with | ⟨0, _⟩ => rfl | ⟨1, _⟩ => rfl | ⟨2, _⟩ => rfl
  have e2 : ∀ k : Fin 512, ridx_main_v35 (ix3 (0 : Fin 1) m n) k = ix2 k n := fun k => by
    funext a; match a with | ⟨0, _⟩ => rfl | ⟨1, _⟩ => rfl
  have e3 : ∀ k : Fin 512, lidx_main_v36 (ix3 (0 : Fin 1) m n) k = ix3 (0 : Fin 1) m k := fun k => by
    funext a; match a with | ⟨0, _⟩ => rfl | ⟨1, _⟩ => rfl | ⟨2, _⟩ => rfl
  have e4 : ∀ k : Fin 512, ridx_main_v36 (ix3 (0 : Fin 1) m n) k = ix2 k n := fun k => by
    funext a; match a with | ⟨0, _⟩ => rfl | ⟨1, _⟩ => rfl
  have e5 : idx_main_v38 (idx_main_v39 (ix3 (0 : Fin 1) m n)) = ix1 n := by
    funext a; match a with | ⟨0, _⟩ => rfl
  simp only [e1, e2, e3, e4, e5, even_act, odd_act, even_w, odd_w]
  rfl

end Cert.ReferenceIdeal.Closed

end
-- ==== Proof.Value.lean ====
/- The kernel's result is the reference's: the region's sums are `Spec.Y` of the arguments, which the reference computes;
   and the kernel's run ends with that result and the arguments unchanged. -/
module

public import proofs.«01_k».proof.Proof.Host
public import proofs.«01_k».proof.Proof.Equation
public import proofs.«01_k».proof.Proof.Ref

@[expose] public section

noncomputable section

namespace Cert.KernelIdeal.Block

open Idealize.ShloMosaic hiding ix1 ix2 ix3 ix4
open Idealize.ShloMosaic.TcCoe Idealize.ShloMosaic.ValueIdx Idealize.SL.Sem Cert.KernelIdeal Cert.KernelIdeal.Gen

variable (m : (ℓ : Loc nD τ sig) → Buf (Elt Ideal) ℓ)

/-- The region's result over the arrays it finds is `Spec.Y` of the arguments: every product is the same product, and the
    sum is re-indexed. -/
theorem YK_eq (c : Dev nD) (r : Fin 256) (n : Fin 26624) :
    YK (V m c main_v3) (V m c main_arg2) (V m c main_v2) (V m c main_arg1) (V m c main_v4) r n
      = Spec.Y (m ((c : Thread nD τ).loc main_arg0)) (m ((c : Thread nD τ).loc main_arg1)) (m ((c : Thread nD τ).loc main_arg2))
          (m ((c : Thread nD τ).loc main_arg3)) (m ((c : Thread nD τ).loc main_arg4)) r n := by
  unfold YK Spec.Y
  rw [V_v4]
  refine congrArg (· * _) (Equation.resum _ (fun j k => Spec.X (m ((c : Thread nD τ).loc main_arg0)) r j k
    * Spec.W (m ((c : Thread nD τ).loc main_arg1)) (m ((c : Thread nD τ).loc main_arg2)) (m ((c : Thread nD τ).loc main_arg3)) j n k)
    fun b k q => ?_)
  have hk := k.isLt
  have hq := q.isLt
  have hb := b.isLt
  have e1 : (⟨b.val * 128 + (k.val * 128 + q.val) % 128, by omega⟩ : Fin 512) = ⟨b.val * 128 + q.val, by omega⟩ :=
    Fin.ext (by show b.val * 128 + (k.val * 128 + q.val) % 128 = b.val * 128 + q.val; omega)
  have e2 : (⟨(k.val * 128 + q.val) / 128, by omega⟩ : Fin 2) = k :=
    Fin.ext (by show (k.val * 128 + q.val) / 128 = k.val; omega)
  have e3 : Spec.blk (⟨b.val * 128 + q.val, by omega⟩ : Fin 512) = b :=
    Fin.ext (by show (b.val * 128 + q.val) / 128 = b.val; omega)
  dsimp only
  rw [act_at m c r b k q (by omega) (by omega), e1, e2, V_main_arg1, V_main_arg2, V_v3]
  unfold Spec.X Spec.W
  rw [e3]

/-- The kernel's result array is the reference's result of the kernel's arguments. -/
theorem value (c : Dev nD) :
    (Pipeline.afterTail₀ cfgs (dats m) 0 (V0 m) [hostOps1] c main_v6 : S1x256x26624.Idx → EReal)
      = Cert.ReferenceIdeal.Read.val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext y
  obtain ⟨r, n, rfl⟩ : ∃ (r : Fin 256) (n : Fin 26624), y = ix3 (0 : Fin 1) r n := ⟨y 1, y 2, by
    funext a
    match a with
    | ⟨0, _⟩ => exact Fin.ext (Nat.lt_one_iff.mp (y 0).isLt)
    | ⟨1, _⟩ => rfl
    | ⟨2, _⟩ => rfl⟩
  rw [tail, YK_eq]
  exact (Cert.ReferenceIdeal.Closed.result _ _ _ _ _ r n).symm

/-- The kernel's run ends with its result array as the line after the region leaves it, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1.rest_eq c main_v6 (Pipeline.mem_restRefs_of main_v6 (by decide) (by decide)), h.2 c⟩)
    (θ_run_and (run_main m ρ) (unchanged m ρ))

end Cert.KernelIdeal.Block
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, its arguments end unchanged, and it has no semaphore, so every counter reads zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From memories that agree on the arguments, the kernel and the reference end with equal results, element by element. -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v41_eq, h0, h1, h2, h3, h4]
  exact (Cert.KernelIdeal.Block.value m c).symm

/-- The certificate: the three frames, the idealization (which rewrote nothing), and the equality of results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
